-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_focals_nonzero [hPre_focals_nonzero : Cert.Pre_focals_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_focals_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_focals_nonzero [hPre_focals_nonzero : Cert.Pre_focals_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_focals_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_focals_nonzero [hKernelIdeal : Cert.KernelIdeal.Facts] [hPre_focals_nonzero : Cert.Pre_focals_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_focals_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_focals_nonzero [hReferenceIdeal : Cert.ReferenceIdeal.Facts] [hPre_focals_nonzero : Cert.Pre_focals_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_focals_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_focals_nonzero [hKernelIdeal : Cert.KernelIdeal.Facts] [hReferenceIdeal : Cert.ReferenceIdeal.Facts] [hPre_focals_nonzero : Cert.Pre_focals_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_focals_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_focals_nonzero : Cert.Pre_focals_nonzero.Facts),
    quiescent_Kernel (hKernel := hKernel)
    ∧ quiescent_KernelIdeal (hKernelIdeal := hKernelIdeal)
    ∧ quiescent_KernelIdeal_pre_focals_nonzero (hKernelIdeal := hKernelIdeal) (hPre_focals_nonzero := hPre_focals_nonzero)
    ∧ quiescent_ReferenceIdeal (hReferenceIdeal := hReferenceIdeal)
    ∧ quiescent_ReferenceIdeal_pre_focals_nonzero (hReferenceIdeal := hReferenceIdeal) (hPre_focals_nonzero := hPre_focals_nonzero)
    ∧ preserves_Kernel_KernelIdeal
    ∧ algebraic_KernelIdeal_ReferenceIdeal_pre_focals_nonzero (hKernelIdeal := hKernelIdeal) (hReferenceIdeal := hReferenceIdeal) (hPre_focals_nonzero := hPre_focals_nonzero)
-- ==== Pre_focals_nonzero.lean ====
abbrev S512x512 : Shape := ⟨2, ![512, 512]⟩
abbrev S3x3 : Shape := ⟨2, ![3, 3]⟩
abbrev S17x32 : Shape := ⟨2, ![17, 32]⟩
abbrev S35x64 : Shape := ⟨2, ![35, 64]⟩
abbrev S64 : Shape := ⟨1, ![64]⟩
abbrev S64x32 : Shape := ⟨2, ![64, 32]⟩
abbrev S32 : Shape := ⟨1, ![32]⟩
abbrev S32x35 : Shape := ⟨2, ![32, 35]⟩
abbrev S35 : Shape := ⟨1, ![35]⟩
abbrev S1x1 : Shape := ⟨2, ![1, 1]⟩
abbrev S_ : Shape := ⟨0, ![]⟩

class Facts : Prop where
  slices_S3x3_S1x1_0_0 : S3x3.Slices ![0, 0] S1x1
  shapeCasts_S1x1_S_ : S1x1.ShapeCasts S_
  slices_S3x3_S1x1_1_1 : S3x3.Slices ![1, 1] S1x1

variable [Facts]

def fn {F : FTy → Type} [FloatOps F] (main_arg0 : IVec S512x512 32) (main_arg1 : FVec F S512x512 .f32) (main_arg2 : FVec F S3x3 .f32) (main_arg3 : FVec F S17x32 .f32) (main_arg4 : FVec F S35x64 .f32) (main_arg5 : FVec F S64 .f32) (main_arg6 : FVec F S64x32 .f32) (main_arg7 : FVec F S32 .f32) (main_arg8 : FVec F S32x35 .f32) (main_arg9 : FVec F S35 .f32) : IVec S_ 1 :=
  let main_v0 : FVec F S1x1 .f32 := (extractStridedSlice S1x1 ![0, 0] · slices_S3x3_S1x1_0_0) main_arg2
  let main_v1 : FVec F S_ .f32 := shapeCast S_ main_v0 shapeCasts_S1x1_S_
  let main_cst : FVec F S_ .f32 := constant S_ .f32 0x00000000#32
  let main_v2 : IVec S_ 1 := cmpf .une main_v1 main_cst
  let main_v3 : FVec F S1x1 .f32 := (extractStridedSlice S1x1 ![1, 1] · slices_S3x3_S1x1_1_1) main_arg2
  let main_v4 : FVec F S_ .f32 := shapeCast S_ main_v3 shapeCasts_S1x1_S_
  let main_cst_0 : FVec F S_ .f32 := constant S_ .f32 0x00000000#32
  let main_v5 : IVec S_ 1 := cmpf .une main_v4 main_cst_0
  let main_v6 : IVec S_ 1 := andi main_v2 main_v5
  main_v6
-- ==== Kernel.lean ====
abbrev S512x512 : Shape := ⟨2, ![512, 512]⟩
abbrev S3x3 : Shape := ⟨2, ![3, 3]⟩
abbrev S17x32 : Shape := ⟨2, ![17, 32]⟩
abbrev S35x64 : Shape := ⟨2, ![35, 64]⟩
abbrev S64 : Shape := ⟨1, ![64]⟩
abbrev S64x32 : Shape := ⟨2, ![64, 32]⟩
abbrev S32 : Shape := ⟨1, ![32]⟩
abbrev S32x35 : Shape := ⟨2, ![32, 35]⟩
abbrev S35 : Shape := ⟨1, ![35]⟩
abbrev S1x1 : Shape := ⟨2, ![1, 1]⟩
abbrev S_ : Shape := ⟨0, ![]⟩
abbrev S1 : Shape := ⟨1, ![1]⟩
abbrev S4 : Shape := ⟨1, ![4]⟩
abbrev S64x1x4096 : Shape := ⟨3, ![64, 1, 4096]⟩
abbrev S32x17 : Shape := ⟨2, ![32, 17]⟩
abbrev S3x64 : Shape := ⟨2, ![3, 64]⟩
abbrev S64x3 : Shape := ⟨2, ![64, 3]⟩
abbrev S32x64 : Shape := ⟨2, ![32, 64]⟩
abbrev S35x32 : Shape := ⟨2, ![35, 32]⟩
abbrev S64x1 : Shape := ⟨2, ![64, 1]⟩
abbrev S32x1 : Shape := ⟨2, ![32, 1]⟩
abbrev S35x1 : Shape := ⟨2, ![35, 1]⟩
abbrev S3x262144 : Shape := ⟨2, ![3, 262144]⟩
abbrev S35x262144 : Shape := ⟨2, ![35, 262144]⟩
abbrev S1x1x4096 : Shape := ⟨3, ![1, 1, 4096]⟩
abbrev S3x4096 : Shape := ⟨2, ![3, 4096]⟩
abbrev S35x4096 : Shape := ⟨2, ![35, 4096]⟩
abbrev S1x4096 : Shape := ⟨2, ![1, 4096]⟩
abbrev S17x4096 : Shape := ⟨2, ![17, 4096]⟩
abbrev S64x17 : Shape := ⟨2, ![64, 17]⟩
abbrev S64x4096 : Shape := ⟨2, ![64, 4096]⟩
abbrev S32x4096 : Shape := ⟨2, ![32, 4096]⟩
abbrev S262144x3 : Shape := ⟨2, ![262144, 3]⟩
abbrev S262144 : Shape := ⟨1, ![262144]⟩
abbrev S262144x35 : Shape := ⟨2, ![262144, 35]⟩

abbrev nBuf : Space → Nat
  | .hbm => 48
  | .vmem => 18
  | .smem => 1
  | _ => 0

abbrev bufTy : (tb : Table) → Fin (tcTables nBuf tb) → BufTy
  | .hbm, ⟨0, _⟩ => ⟨S512x512, .i32⟩
  | .hbm, ⟨1, _⟩ => ⟨S512x512, .f32⟩
  | .hbm, ⟨2, _⟩ => ⟨S3x3, .f32⟩
  | .hbm, ⟨3, _⟩ => ⟨S17x32, .f32⟩
  | .hbm, ⟨4, _⟩ => ⟨S35x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x35, .f32⟩
  | .hbm, ⟨9, _⟩ => ⟨S35, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1, .f32⟩
  | .hbm, ⟨25, _⟩ => ⟨S1, .f32⟩
  | .hbm, ⟨26, _⟩ => ⟨S4, .f32⟩
  | .hbm, ⟨27, _⟩ => ⟨S64x1x4096, .f32⟩
  | .hbm, ⟨28, _⟩ => ⟨S64x1x4096, .i32⟩
  | .hbm, ⟨29, _⟩ => ⟨S32x17, .f32⟩
  | .hbm, ⟨30, _⟩ => ⟨S3x64, .f32⟩
  | .hbm, ⟨31, _⟩ => ⟨S64x3, .f32⟩
  | .hbm, ⟨32, _⟩ => ⟨S64x3, .bf16⟩
  | .hbm, ⟨33, _⟩ => ⟨S32x64, .f32⟩
  | .hbm, ⟨34, _⟩ => ⟨S64x32, .f32⟩
  | .hbm, ⟨35, _⟩ => ⟨S32x64, .f32⟩
  | .hbm, ⟨36, _⟩ => ⟨S32x64, .bf16⟩
  | .hbm, ⟨37, _⟩ => ⟨S35x32, .f32⟩
  | .hbm, ⟨38, _⟩ => ⟨S35x32, .bf16⟩
  | .hbm, ⟨39, _⟩ => ⟨S64x1, .f32⟩
  | .hbm, ⟨40, _⟩ => ⟨S32x1, .f32⟩
  | .hbm, ⟨41, _⟩ => ⟨S35x1, .f32⟩
  | .hbm, ⟨42, _⟩ => ⟨S3x262144, .f32⟩
  | .hbm, ⟨43, _⟩ => ⟨S64x1x4096, .i32⟩
  | .hbm, ⟨44, _⟩ => ⟨S35x262144, .f32⟩
  | .hbm, ⟨45, _⟩ => ⟨S262144x3, .f32⟩
  | .hbm, ⟨46, _⟩ => ⟨S262144, .i32⟩
  | .hbm, ⟨47, _⟩ => ⟨S262144x35, .f32⟩
  | .local _ .vmem, ⟨0, _⟩ => ⟨S1x1x4096, .f32⟩
  | .local _ .vmem, ⟨1, _⟩ => ⟨S1x1x4096, .f32⟩
  | .local _ .vmem, ⟨2, _⟩ => ⟨S1x1x4096, .i32⟩
  | .local _ .vmem, ⟨3, _⟩ => ⟨S1x1x4096, .i32⟩
  | .local _ .vmem, ⟨4, _⟩ => ⟨S32x17, .f32⟩
  | .local _ .vmem, ⟨5, _⟩ => ⟨S64x3, .bf16⟩
  | .local _ .vmem, ⟨6, _⟩ => ⟨S64x32, .f32⟩
  | .local _ .vmem, ⟨7, _⟩ => ⟨S64x1, .f32⟩
  | .local _ .vmem, ⟨8, _⟩ => ⟨S32x64, .bf16⟩
  | .local _ .vmem, ⟨9, _⟩ => ⟨S32x1, .f32⟩
  | .local _ .vmem, ⟨10, _⟩ => ⟨S35x32, .bf16⟩
  | .local _ .vmem, ⟨11, _⟩ => ⟨S35x1, .f32⟩
  | .local _ .vmem, ⟨12, _⟩ => ⟨S3x4096, .f32⟩
  | .local _ .vmem, ⟨13, _⟩ => ⟨S3x4096, .f32⟩
  | .local _ .vmem, ⟨14, _⟩ => ⟨S1x1x4096, .i32⟩
  | .local _ .vmem, ⟨15, _⟩ => ⟨S1x1x4096, .i32⟩
  | .local _ .vmem, ⟨16, _⟩ => ⟨S35x4096, .f32⟩
  | .local _ .vmem, ⟨17, _⟩ => ⟨S35x4096, .f32⟩
  | .local _ .smem, ⟨0, _⟩ => ⟨S4, .f32⟩
  | _, _ => ⟨S512x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x17 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x3 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S35x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S35x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x4096 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S35x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S512x512 : Shape := ⟨2, ![512, 512]⟩
abbrev S3x3 : Shape := ⟨2, ![3, 3]⟩
abbrev S17x32 : Shape := ⟨2, ![17, 32]⟩
abbrev S35x64 : Shape := ⟨2, ![35, 64]⟩
abbrev S64 : Shape := ⟨1, ![64]⟩
abbrev S64x32 : Shape := ⟨2, ![64, 32]⟩
abbrev S32 : Shape := ⟨1, ![32]⟩
abbrev S32x35 : Shape := ⟨2, ![32, 35]⟩
abbrev S35 : Shape := ⟨1, ![35]⟩
abbrev S512 : Shape := ⟨1, ![512]⟩
abbrev S1x1 : Shape := ⟨2, ![1, 1]⟩
abbrev S_ : Shape := ⟨0, ![]⟩
abbrev S512x512x1 : Shape := ⟨3, ![512, 512, 1]⟩
abbrev S512x512x3 : Shape := ⟨3, ![512, 512, 3]⟩
abbrev S262144 : Shape := ⟨1, ![262144]⟩
abbrev S262144x1 : Shape := ⟨2, ![262144, 1]⟩
abbrev S262144x3 : Shape := ⟨2, ![262144, 3]⟩
abbrev S1 : Shape := ⟨1, ![1]⟩
abbrev S262144x32 : Shape := ⟨2, ![262144, 32]⟩
abbrev S262144x35 : Shape := ⟨2, ![262144, 35]⟩
abbrev S262144x64 : Shape := ⟨2, ![262144, 64]⟩
abbrev S1x64 : Shape := ⟨2, ![1, 64]⟩
abbrev S1x32 : Shape := ⟨2, ![1, 32]⟩
abbrev S1x35 : Shape := ⟨2, ![1, 35]⟩

abbrev nBuf : Space → Nat
  | .hbm => 106
  | .vmem => 0
  | .smem => 0
  | _ => 0

abbrev bufTy : (tb : Table) → Fin (tcTables nBuf tb) → BufTy
  | .hbm, ⟨0, _⟩ => ⟨S512x512, .i32⟩
  | .hbm, ⟨1, _⟩ => ⟨S512x512, .f32⟩
  | .hbm, ⟨2, _⟩ => ⟨S3x3, .f32⟩
  | .hbm, ⟨3, _⟩ => ⟨S17x32, .f32⟩
  | .hbm, ⟨4, _⟩ => ⟨S35x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x35, .f32⟩
  | .hbm, ⟨9, _⟩ => ⟨S35, .f32⟩
  | .hbm, ⟨10, _⟩ => ⟨S512, .f32⟩
  | .hbm, ⟨11, _⟩ => ⟨S512, .f32⟩
  | .hbm, ⟨12, _⟩ => ⟨S512x512, .f32⟩
  | .hbm, ⟨13, _⟩ => ⟨S512x512, .f32⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S512x512x1, .f32⟩
  | .hbm, ⟨33, _⟩ => ⟨S512x512x1, .f32⟩
  | .hbm, ⟨34, _⟩ => ⟨S512x512x1, .f32⟩
  | .hbm, ⟨35, _⟩ => ⟨S512x512x3, .f32⟩
  | .hbm, ⟨36, _⟩ => ⟨S_, .f32⟩
  | .hbm, ⟨37, _⟩ => ⟨S512x512, .f32⟩
  | .hbm, ⟨38, _⟩ => ⟨S512x512, .i1⟩
  | .hbm, ⟨39, _⟩ => ⟨S_, .f32⟩
  | .hbm, ⟨40, _⟩ => ⟨S512x512, .f32⟩
  | .hbm, ⟨41, _⟩ => ⟨S512x512, .i1⟩
  | .hbm, ⟨42, _⟩ => ⟨S512x512, .i1⟩
  | .hbm, ⟨43, _⟩ => ⟨S262144, .i1⟩
  | .hbm, ⟨44, _⟩ => ⟨S262144x1, .i1⟩
  | .hbm, ⟨45, _⟩ => ⟨S262144x3, .f32⟩
  | .hbm, ⟨46, _⟩ => ⟨S_, .f32⟩
  | .hbm, ⟨47, _⟩ => ⟨S_, .f32⟩
  | .hbm, ⟨48, _⟩ => ⟨S262144x3, .i1⟩
  | .hbm, ⟨49, _⟩ => ⟨S262144x3, .f32⟩
  | .hbm, ⟨50, _⟩ => ⟨S262144x3, .f32⟩
  | .hbm, ⟨51, _⟩ => ⟨S262144, .i32⟩
  | .hbm, ⟨52, _⟩ => ⟨S_, .i32⟩
  | .hbm, ⟨53, _⟩ => ⟨S_, .i32⟩
  | .hbm, ⟨54, _⟩ => ⟨S262144, .i32⟩
  | .hbm, ⟨55, _⟩ => ⟨S262144, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S262144, .i32⟩
  | .hbm, ⟨60, _⟩ => ⟨S262144, .i32⟩
  | .hbm, ⟨61, _⟩ => ⟨S_, .i32⟩
  | .hbm, ⟨62, _⟩ => ⟨S262144, .i32⟩
  | .hbm, ⟨63, _⟩ => ⟨S262144, .i32⟩
  | .hbm, ⟨64, _⟩ => ⟨S_, .i32⟩
  | .hbm, ⟨65, _⟩ => ⟨S262144, .i32⟩
  | .hbm, ⟨66, _⟩ => ⟨S262144, .i1⟩
  | .hbm, ⟨67, _⟩ => ⟨S_, .i32⟩
  | .hbm, ⟨68, _⟩ => ⟨S262144, .i32⟩
  | .hbm, ⟨69, _⟩ => ⟨S262144, .i32⟩
  | .hbm, ⟨70, _⟩ => ⟨S262144, .i32⟩
  | .hbm, ⟨71, _⟩ => ⟨S262144x1, .i32⟩
  | .hbm, ⟨72, _⟩ => ⟨S1, .i32⟩
  | .hbm, ⟨73, _⟩ => ⟨S_, .i32⟩
  | .hbm, ⟨74, _⟩ => ⟨S262144x1, .i32⟩
  | .hbm, ⟨75, _⟩ => ⟨S262144x1, .i1⟩
  | .hbm, ⟨76, _⟩ => ⟨S1x1, .i32⟩
  | .hbm, ⟨77, _⟩ => ⟨S262144x1, .i32⟩
  | .hbm, ⟨78, _⟩ => ⟨S262144x1, .i1⟩
  | .hbm, ⟨79, _⟩ => ⟨S262144x1, .i1⟩
  | .hbm, ⟨80, _⟩ => ⟨S_, .i1⟩
  | .hbm, ⟨81, _⟩ => ⟨S262144, .i1⟩
  | .hbm, ⟨82, _⟩ => ⟨S262144x32, .f32⟩
  | .hbm, ⟨83, _⟩ => ⟨S262144x32, .i1⟩
  | .hbm, ⟨84, _⟩ => ⟨S_, .f32⟩
  | .hbm, ⟨85, _⟩ => ⟨S262144x32, .f32⟩
  | .hbm, ⟨86, _⟩ => ⟨S262144x32, .f32⟩
  | .hbm, ⟨87, _⟩ => ⟨S262144x35, .f32⟩
  | .hbm, ⟨88, _⟩ => ⟨S262144x64, .f32⟩
  | .hbm, ⟨89, _⟩ => ⟨S1x64, .f32⟩
  | .hbm, ⟨90, _⟩ => ⟨S262144x64, .f32⟩
  | .hbm, ⟨91, _⟩ => ⟨S262144x64, .f32⟩
  | .hbm, ⟨92, _⟩ => ⟨S_, .f32⟩
  | .hbm, ⟨93, _⟩ => ⟨S262144x64, .f32⟩
  | .hbm, ⟨94, _⟩ => ⟨S262144x64, .f32⟩
  | .hbm, ⟨95, _⟩ => ⟨S262144x32, .f32⟩
  | .hbm, ⟨96, _⟩ => ⟨S1x32, .f32⟩
  | .hbm, ⟨97, _⟩ => ⟨S262144x32, .f32⟩
  | .hbm, ⟨98, _⟩ => ⟨S262144x32, .f32⟩
  | .hbm, ⟨99, _⟩ => ⟨S_, .f32⟩
  | .hbm, ⟨100, _⟩ => ⟨S262144x32, .f32⟩
  | .hbm, ⟨101, _⟩ => ⟨S262144x32, .f32⟩
  | .hbm, ⟨102, _⟩ => ⟨S262144x35, .f32⟩
  | .hbm, ⟨103, _⟩ => ⟨S1x35, .f32⟩
  | .hbm, ⟨104, _⟩ => ⟨S262144x35, .f32⟩
  | .hbm, ⟨105, _⟩ => ⟨S262144x35, .f32⟩
  | _, _ => ⟨S512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v34 : Ref sig .tc := ⟨.hbm, 50, rfl⟩
abbrev main_v35 : Ref sig .tc := ⟨.hbm, 51, rfl⟩
abbrev main_c : Ref sig .tc := ⟨.hbm, 52, rfl⟩
abbrev main_call1_v0 : Ref sig .tc := ⟨.hbm, 53, rfl⟩
abbrev main_call1_v1 : Ref sig .tc := ⟨.hbm, 54, rfl⟩
abbrev main_v36 : Ref sig .tc := ⟨.hbm, 55, rfl⟩
abbrev main_c_2 : Ref sig .tc := ⟨.hbm, 56, rfl⟩
abbrev main_c_3 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v37 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_call3_cst : Ref sig .tc := ⟨.hbm, 84, rfl⟩
abbrev main_call3_v15 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_call4_cst : Ref sig .tc := ⟨.hbm, 92, rfl⟩
abbrev main_call4_v0 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_call5_cst : Ref sig .tc := ⟨.hbm, 99, rfl⟩
abbrev main_call5_v0 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩

abbrev nD : Nat := 1
abbrev τ : Topo := Topo.v7x

variable {F : FTy → Type} [FloatOps F]
-- ==== Proof.Pixel.lean ====
/- What the program computes at one pixel of the image, over the extended reals and 32-bit words: which depths are kept,
   the label, the back-projected point, the row of the embedding table, and the three-layer network. No kernel and no
   array layout appears here; the kernel's blocks and the reference's arrays are each shown to hold these functions. -/
module

public import Idealize.ShloMosaic.Lib.Pointwise
public import Idealize.ShloMosaic.Lib.WordArith
public import Idealize.ShloMosaic.Lib.Routing.Words

@[expose] public section

noncomputable section

namespace Cert.Proof

open Idealize.ShloMosaic Idealize.ShloMosaic.WordArith

/-! ## One pixel -/

/-- The bit that says whether a depth is kept: above the constant 0.1 and below the constant 10, both as 32-bit floats. -/
def inRange (d : EReal) : BitVec 1 :=
  IntOp.andi (BitVec.ofBool (decide (Ideal.ofBits .f32 0x3DCCCCCD#32 < d)))
    (BitVec.ofBool (decide (d < Ideal.ofBits .f32 0x41200000#32)))

/-- The label of a pixel: its entry of the semantic map where the depth is kept, else 0. -/
def label (d : EReal) (s : BitVec 32) : BitVec 32 := Scalar.select (inRange d) s 0#32

/-- The number `n` of a pixel's row or column, as the extended real that its word is converted to. -/
def place (n : ℕ) : EReal := FloatOps.sitofp (F := Ideal) .f32 (BitVec.ofNat 32 n)

/-- The point of the pixel at row `r`, column `u` with depth `d`, for a camera with focal lengths `fx`, `fy` and centre
    `cx`, `cy`: the back-projection where the depth is kept, else the origin. -/
def point (fx fy cx cy : EReal) (r u : ℕ) (d : EReal) (k : Fin 3) : EReal :=
  Scalar.select (inRange d)
    (match k with
      | 0 => Ideal.div ((place u - cx) * d) fx
      | 1 => Ideal.div ((place r - cy) * d) fy
      | 2 => d) 0

/-- A label clipped into `[0, 16]`, as a word. -/
def clipWord (l : BitVec 32) : BitVec 32 := IntOp.minsi 16#32 (IntOp.maxsi 0#32 l)

/-- A clipped label as a number: at most 16, a negative label 0. -/
theorem clipWord_toNat (l : BitVec 32) : (clipWord l).toNat = min 16 l.toInt.toNat := by
  have h := two_mul_toNat_maxsi_zero_lt l
  unfold clipWord
  rw [toNat_minsi_of_lt _ _ (by decide) (by unfold Scalar.maxsi at h; omega), toNat_maxsi_zero]
  rfl

/-- A label clipped into `[0, 16]`, as a row of the embedding table. -/
def tableRow (l : BitVec 32) : Fin 17 := ⟨(clipWord l).toNat, by rw [clipWord_toNat]; omega⟩

/-- The clipped label is the word of its row. -/
theorem clipWord_eq (l : BitVec 32) : clipWord l = BitVec.ofNat 32 (tableRow l).val := by
  unfold tableRow
  rw [BitVec.ofNat_toNat, BitVec.setWidth_eq]

/-- The network's first layer on a point `p` and an embedding row `e`: the first three rows of the weights meet the point,
    the other thirty-two the row; then the bias and the rectifier. -/
def hidden1 (p : Fin 3 → EReal) (e : Fin 32 → EReal) (w1 : Fin 35 → Fin 64 → EReal) (b1 : Fin 64 → EReal) (j : Fin 64) : EReal :=
  max ((∑ k : Fin 3, p k * w1 ⟨k.val, by omega⟩ j) + (∑ k : Fin 32, e k * w1 ⟨3 + k.val, by omega⟩ j) + b1 j) 0

/-- The second layer on the first layer's values. -/
def hidden2 (h : Fin 64 → EReal) (w2 : Fin 64 → Fin 32 → EReal) (b2 : Fin 32 → EReal) (j : Fin 32) : EReal :=
  max ((∑ k : Fin 64, h k * w2 k j) + b2 j) 0

/-- The last layer, without a rectifier. -/
def output (h : Fin 32 → EReal) (w3 : Fin 32 → Fin 35 → EReal) (b3 : Fin 35 → EReal) (j : Fin 35) : EReal :=
  (∑ k : Fin 32, h k * w3 k j) + b3 j

/-! ## A table row picked by a product with zeros and a one -/

/-- A sum over the table's rows of a row's value where the row is the clipped label's and 0 elsewhere is the value at that
    row. -/
theorem sum_pick (l : BitVec 32) (f : Fin 17 → EReal) :
    ∑ x : Fin 17, Scalar.select (IntOp.cmpi .eq (BitVec.ofNat 32 x.val) (clipWord l)) (f x) 0 = f (tableRow l) := by
  rw [Finset.sum_eq_single (tableRow l)]
  · rw [clipWord_eq]; simp [IntOp.cmpi, Scalar.select]
  · intro x _ hx
    have hne : BitVec.ofNat 32 x.val ≠ clipWord l := fun h => hx (Fin.ext (by
      have := congrArg BitVec.toNat h
      rw [BitVec.toNat_ofNat, Nat.mod_eq_of_lt (by have := x.isLt; omega)] at this
      exact this))
    simp [IntOp.cmpi, Scalar.select, beq_eq_false_iff_ne.2 hne]
  · intro h; exact absurd (Finset.mem_univ _) h

end Cert.Proof

end
-- ==== Proof.Block.lean ====
/- What the kernel computes on one block of 4096 pixels: each stored value read at an index, as the functions of one pixel
   (Pixel.lean). The block of grid point `t` holds the pixels `t * 4096 + p`, of rows `t * 8 + p / 512` and columns
   `p % 512`. -/
module

public import proofs.«01_k».proof.Proof.Pixel
public import proofs.«01_k».proof.Proof.Gen.KernelIdeal.Skeleton

@[expose] public section

set_option maxRecDepth 16384

noncomputable section

namespace Cert.Proof.Block

open Idealize.ShloMosaic Cert.KernelIdeal Cert.KernelIdeal.Facts₀

variable [Facts]

/-! ## Labels -/

/-- The kernel's label block is the label of each pixel. -/
theorem label_apply (d : Vec Ideal S1x1x4096 .f32) (s : Vec Ideal S1x1x4096 .i32) (p : Fin 4096) :
    Gen.k0_pay5 d s (ix3 0 0 p) = label (d (ix3 0 0 p)) (s (ix3 0 0 p)) := by
  pointwise [Gen.k0_pay5, Gen.k0_pay4, Gen.k0_pay3, Gen.k0_pay2, label, inRange]

/-- The clamp below of the labels, which the network goes on with, clamped above, is the clipped label. -/
theorem clip_apply (d : Vec Ideal S1x1x4096 .f32) (s : Vec Ideal S1x1x4096 .i32) (p : Fin 4096) :
    IntOp.minsi 16#32 (Gen.k0_pay10 (Gen.k0_pay4 d s) (ix2 0 p)) = clipWord (label (d (ix3 0 0 p)) (s (ix3 0 0 p))) := by
  pointwise [Gen.k0_pay10, Gen.k0_pay4, Gen.k0_pay3, Gen.k0_pay2, clipWord, label, inRange]

/-! ## Points -/

/-- The remainder of a lane by 512, with its sign put right as a floored remainder's is, is the plain remainder: lanes are
    not negative. -/
theorem remainder_word : ∀ p : Fin 4096,
    Scalar.select
        (IntOp.andi
          (IntOp.xori
            (IntOp.cmpi CmpIPredicate.slt
              (IntOp.remsi ArithUnit.vector (BitVec.ofNat 32 p.val)
                (Scalar.select (Scalar.cmpi CmpIPredicate.eq 512#32 0#32) 1#32 512#32))
              0#32)
            (Scalar.cmpi CmpIPredicate.slt (Scalar.select (Scalar.cmpi CmpIPredicate.eq 512#32 0#32) 1#32 512#32) 0#32))
          (IntOp.cmpi CmpIPredicate.ne
            (IntOp.remsi ArithUnit.vector (BitVec.ofNat 32 p.val)
              (Scalar.select (Scalar.cmpi CmpIPredicate.eq 512#32 0#32) 1#32 512#32))
            0#32))
        (IntOp.addi
          (IntOp.remsi ArithUnit.vector (BitVec.ofNat 32 p.val)
            (Scalar.select (Scalar.cmpi CmpIPredicate.eq 512#32 0#32) 1#32 512#32))
          (Scalar.select (Scalar.cmpi CmpIPredicate.eq 512#32 0#32) 1#32 512#32))
        (IntOp.remsi ArithUnit.vector (BitVec.ofNat 32 p.val)
          (Scalar.select (Scalar.cmpi CmpIPredicate.eq 512#32 0#32) 1#32 512#32))
      = BitVec.ofNat 32 (p.val % 512) := by
  decide +kernel

/-- The quotient of a lane by 512, corrected as a floored quotient's is, is the plain quotient. -/
theorem quotient_word : ∀ p : Fin 4096,
    Scalar.select
        (IntOp.andi
          (IntOp.cmpi CmpIPredicate.ne
            (IntOp.subi (BitVec.setWidth 32 (IntOp.cmpi CmpIPredicate.sgt (BitVec.ofNat 32 p.val) 0#32))
              (BitVec.setWidth 32 (IntOp.cmpi CmpIPredicate.slt (BitVec.ofNat 32 p.val) 0#32)))
            (Scalar.subi (Scalar.extui (Scalar.cmpi CmpIPredicate.sgt 512#32 0#32))
              (Scalar.extui (Scalar.cmpi CmpIPredicate.slt 512#32 0#32))))
          (IntOp.cmpi CmpIPredicate.ne (IntOp.remsi ArithUnit.vector (BitVec.ofNat 32 p.val) 512#32) 0#32))
        (IntOp.subi (IntOp.divsi ArithUnit.vector (BitVec.ofNat 32 p.val) 512#32) 1#32)
        (IntOp.divsi ArithUnit.vector (BitVec.ofNat 32 p.val) 512#32)
      = BitVec.ofNat 32 (p.val / 512) := by
  decide +kernel

/-- The kernel's column of a lane, converted. -/
theorem column_apply (p : Fin 4096) : Gen.k0_pay6 (F := Ideal) (ix2 0 p) = place (p.val % 512) := by
  pointwise [Gen.k0_pay6, place]
  rw [remainder_word]

/-- The words `t * 8` and `q` added are the word of the number. -/
theorem row_word (t q : ℕ) :
    IntOp.addi (Scalar.muli (BitVec.ofNat 32 t) 8#32) (BitVec.ofNat 32 q) = BitVec.ofNat 32 (t * 8 + q) := by
  show BitVec.ofNat 32 t * BitVec.ofNat 32 8 + BitVec.ofNat 32 q = _
  rw [BitVec.ofNat_add, BitVec.ofNat_mul]

/-- The points block of grid point `t`, from the block of depths and the four scalars `cx`, `cy`, `gx`, `gy`. -/
abbrev points (d : Vec Ideal S1x1x4096 .f32) (t : ℕ) (cx cy gx gy : EReal) : FVec Ideal S3x4096 .f32 :=
  Gen.k0_pay9 (F := Ideal) (Gen.k0_pay2 d) (Gen.k0_pay3 d) (iota .tc S1x4096 32 [1] iota_S1x4096_d1_w32) Gen.k0_pay6
    (Scalar.muli (BitVec.ofNat 32 t) 8#32) 512#32 Gen.k0_pay7 Gen.k0_pay8 cx cy gx gy

variable (d : Vec Ideal S1x1x4096 .f32) (t : ℕ) (cx cy gx gy : EReal) (p : Fin 4096)

/-- First coordinates: the column less the centre, times the depth, times the scalar `gx`. -/
theorem point_x : points d t cx cy gx gy (ix2 0 p)
    = Scalar.select (inRange (d (ix3 0 0 p))) ((place (p.val % 512) - cx) * d (ix3 0 0 p) * gx) 0 := by
  rw [← column_apply]
  pointwise [points, Gen.k0_pay9, Gen.k0_pay3, Gen.k0_pay2, inRange]

/-- Second coordinates: the row less the centre, times the depth, times the scalar `gy`. -/
theorem point_y : points d t cx cy gx gy (ix2 1 p)
    = Scalar.select (inRange (d (ix3 0 0 p))) ((place (t * 8 + p.val / 512) - cy) * d (ix3 0 0 p) * gy) 0 := by
  unfold place
  rw [← row_word, ← quotient_word]
  pointwise [points, Gen.k0_pay9, Gen.k0_pay7, Gen.k0_pay8, Gen.k0_pay3, Gen.k0_pay2, inRange]

/-- Third coordinates: the depth. -/
theorem point_z : points d t cx cy gx gy (ix2 2 p) = Scalar.select (inRange (d (ix3 0 0 p))) (d (ix3 0 0 p)) 0 := by
  pointwise [points, Gen.k0_pay9, Gen.k0_pay3, Gen.k0_pay2, inRange]

/-- Where `gx` and `gy` are the reciprocals of focal lengths that are not zero, the points block is the point of each
    pixel: a product with a reciprocal is the quotient. -/
theorem point_apply (fx fy : EReal) (hfx : fx ≠ 0) (hfy : fy ≠ 0) (k : Fin 3) :
    points d t cx cy (Ideal.div 1 fx) (Ideal.div 1 fy) (ix2 k p)
      = point fx fy cx cy (t * 8 + p.val / 512) (p.val % 512) (d (ix3 0 0 p)) k := by
  match k with
  | 0 => rw [point_x, Ideal.mul_one_div hfx]; rfl
  | 1 => rw [point_y, Ideal.mul_one_div hfy]; rfl
  | 2 => rw [point_z]; rfl

/-! ## Features -/

/-- The features block: the three layers on the transposed weights, the embedding row taken by a product of the projected
    table with a matrix of zeros and ones. Where the weights, biases and table given are those of `w1` … `b3`, `e`
    transposed, it is the network on each pixel's point and table row. -/
theorem feature_apply (pts : FVec Ideal S3x4096 .f32) (lw : IVec S1x4096 32)
    (x5 : Vec Ideal S64x32 .f32) (x3 : Vec Ideal S32x17 .f32) (x4 : Vec Ideal S64x3 .bf16) (x6 : Vec Ideal S64x1 .f32)
    (x7 : Vec Ideal S32x64 .bf16) (x8 : Vec Ideal S32x1 .f32) (x9 : Vec Ideal S35x32 .bf16) (x10 : Vec Ideal S35x1 .f32)
    (l : BitVec 32) (hl : IntOp.minsi 16#32 (lw (ix2 0 p)) = clipWord l)
    (e : Fin 17 → Fin 32 → EReal) (w1 : Fin 35 → Fin 64 → EReal) (b1 : Fin 64 → EReal) (w2 : Fin 64 → Fin 32 → EReal)
    (b2 : Fin 32 → EReal) (w3 : Fin 32 → Fin 35 → EReal) (b3 : Fin 35 → EReal)
    (h3 : ∀ k r, x3 (ix2 k r) = e r k) (h4 : ∀ j (k : Fin 3), x4 (ix2 j k) = w1 ⟨k.val, by omega⟩ j)
    (h5 : ∀ j (k : Fin 32), x5 (ix2 j k) = w1 ⟨3 + k.val, by omega⟩ j) (h6 : ∀ j, x6 (ix2 j 0) = b1 j)
    (h7 : ∀ j k, x7 (ix2 j k) = w2 k j) (h8 : ∀ j, x8 (ix2 j 0) = b2 j)
    (h9 : ∀ j k, x9 (ix2 j k) = w3 k j) (h10 : ∀ j, x10 (ix2 j 0) = b3 j) (o : Fin 35) :
    Gen.k0_pay1 (Gen.k0_pay11 pts 16#32 lw x5 x3 x4 x6 x7 x8) x9 x10 (ix2 o p)
      = output (hidden2 (hidden1 (fun k => pts (ix2 k p)) (e (tableRow l)) w1 b1) w2 b2) w3 b3 o := by
  pointwise [Gen.k0_pay11, Gen.k0_pay1, output, hidden2, hidden1]
  rw [hl]
  simp only [sum_pick, h3, h4, h5, h6, h7, h8, h9, h10, mul_comm]

end Cert.Proof.Block

end
-- ==== Proof.Image.lean ====
/- The three results as whole arrays over the 512 × 512 image, its pixels numbered row by row: pixel `n` is at row
   `n / 512` and column `n % 512`. Both programs are shown to return these arrays. -/
module

public import proofs.«01_k».proof.Proof.Pixel

@[expose] public section

noncomputable section

namespace Cert.Proof

open Idealize.ShloMosaic

/-- The index of pixel `n` in an image. -/
def pixel (n : Fin 262144) : (⟨2, ![512, 512]⟩ : Shape).Idx :=
  ix2 ⟨n.val / 512, by omega⟩ ⟨n.val % 512, by omega⟩

/-- The point of every pixel, from the depths and the camera's matrix. -/
def imagePoints (depth : FVec Ideal ⟨2, ![512, 512]⟩ .f32) (K : FVec Ideal ⟨2, ![3, 3]⟩ .f32) :
    FVec Ideal ⟨2, ![262144, 3]⟩ .f32 := fun i =>
  point (K (ix2 0 0)) (K (ix2 1 1)) (K (ix2 0 2)) (K (ix2 1 2)) ((i 0).val / 512) ((i 0).val % 512)
    (depth (pixel (i 0))) (i 1)

/-- The label of every pixel, from the semantic map and the depths. -/
def imageLabels (sem : IVec ⟨2, ![512, 512]⟩ 32) (depth : FVec Ideal ⟨2, ![512, 512]⟩ .f32) : IVec ⟨1, ![262144]⟩ 32 :=
  fun i => label (depth (pixel (i 0))) (sem (pixel (i 0)))

/-- The features of every pixel: the network on its point and on the table's row of its label. -/
def imageFeatures (sem : IVec ⟨2, ![512, 512]⟩ 32) (depth : FVec Ideal ⟨2, ![512, 512]⟩ .f32)
    (K : FVec Ideal ⟨2, ![3, 3]⟩ .f32) (table : FVec Ideal ⟨2, ![17, 32]⟩ .f32)
    (w1 : FVec Ideal ⟨2, ![35, 64]⟩ .f32) (b1 : FVec Ideal ⟨1, ![64]⟩ .f32)
    (w2 : FVec Ideal ⟨2, ![64, 32]⟩ .f32) (b2 : FVec Ideal ⟨1, ![32]⟩ .f32)
    (w3 : FVec Ideal ⟨2, ![32, 35]⟩ .f32) (b3 : FVec Ideal ⟨1, ![35]⟩ .f32) : FVec Ideal ⟨2, ![262144, 35]⟩ .f32 := fun i =>
  output
    (hidden2
      (hidden1 (fun k => imagePoints depth K (ix2 (i 0) k))
        (fun k => table (ix2 (tableRow (imageLabels sem depth (ix1 (i 0)))) k))
        (fun k j => w1 (ix2 k j)) (fun j => b1 (ix1 j)))
      (fun k j => w2 (ix2 k j)) (fun j => b2 (ix1 j)))
    (fun k j => w3 (ix2 k j)) (fun j => b3 (ix1 j)) (i 1)

end Cert.Proof

end
-- ==== Proof.Windows.lean ====
/- What the kernel's input windows hold: each block, read at an index, as an element of the program's arguments. The block
   of grid point `t` of a window over the image holds the pixels `t * 4096 + p`; every other window holds its whole array. -/
module

public import proofs.«01_k».proof.Proof.Image
public import proofs.«01_k».proof.Proof.Gen.KernelIdeal
public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.Proof.Windows

open Idealize.ShloMosaic Idealize.ShloMosaic.TcCoe Cert.KernelIdeal Cert.KernelIdeal.Gen Cert.KernelIdeal.Facts₀ Idealize.SL.Sem

variable (m : (ℓ : Loc nD τ sig) → Buf (Elt Ideal) ℓ) (c : Dev nD)

/-! ## The arguments on a device, at their shapes -/

/-- The semantic map. -/
abbrev sem : IVec ⟨2, ![512, 512]⟩ 32 := m ((c : Thread nD τ).loc main_arg0)
/-- The depths. -/
abbrev depth : FVec Ideal ⟨2, ![512, 512]⟩ .f32 := m ((c : Thread nD τ).loc main_arg1)
/-- The camera's matrix. -/
abbrev camera : FVec Ideal ⟨2, ![3, 3]⟩ .f32 := m ((c : Thread nD τ).loc main_arg2)
/-- The embedding table. -/
abbrev table : FVec Ideal ⟨2, ![17, 32]⟩ .f32 := m ((c : Thread nD τ).loc main_arg3)
/-- The first layer's weights. -/
abbrev w1 : FVec Ideal ⟨2, ![35, 64]⟩ .f32 := m ((c : Thread nD τ).loc main_arg4)
/-- The first layer's bias. -/
abbrev b1 : FVec Ideal ⟨1, ![64]⟩ .f32 := m ((c : Thread nD τ).loc main_arg5)
/-- The second layer's weights. -/
abbrev w2 : FVec Ideal ⟨2, ![64, 32]⟩ .f32 := m ((c : Thread nD τ).loc main_arg6)
/-- The second layer's bias. -/
abbrev b2 : FVec Ideal ⟨1, ![32]⟩ .f32 := m ((c : Thread nD τ).loc main_arg7)
/-- The last layer's weights. -/
abbrev w3 : FVec Ideal ⟨2, ![32, 35]⟩ .f32 := m ((c : Thread nD τ).loc main_arg8)
/-- The last layer's bias. -/
abbrev b3 : FVec Ideal ⟨1, ![35]⟩ .f32 := m ((c : Thread nD τ).loc main_arg9)

/-! ## The arrays that the host prepares -/

/-- The centre and the reciprocal focal lengths are packed in the order `cx, cy, 1/fx, 1/fy`. -/
theorem scalars_apply (k : Fin 4) : V m c main_v14 (ix1 k)
    = ![camera m c (ix2 0 2), camera m c (ix2 1 2), Ideal.div 1 (camera m c (ix2 0 0)), Ideal.div 1 (camera m c (ix2 1 1))] k := by
  unfold V
  match k with
  | 0 => after_reads_at; after_reads_at
  | 1 => after_reads_at; after_reads_at
  | 2 => after_reads_at; after_reads_at
  | 3 => after_reads_at; after_reads_at

/-- The depths cut into 64 rows of 4096 pixels. -/
theorem depthRows_apply (a : Fin 64) (p : Fin 4096) :
    V m c main_v15 (ix3 a 0 p) = depth m c (pixel ⟨a.val * 4096 + p.val, by omega⟩) := by
  unfold V
  after_reads_at
  exact congrArg (depth m c) (by unfold pixel; congr 2 <;> dsimp only <;> omega)

/-- The semantic map cut into 64 rows of 4096 pixels. -/
theorem semRows_apply (a : Fin 64) (p : Fin 4096) :
    V m c main_v16 (ix3 a 0 p) = sem m c (pixel ⟨a.val * 4096 + p.val, by omega⟩) := by
  unfold V
  after_reads_at
  exact congrArg (sem m c) (by unfold pixel; congr 2 <;> dsimp only <;> omega)

/-- The table transposed. -/
theorem tableT_apply (k : Fin 32) (r : Fin 17) : V m c main_v17 (ix2 k r) = table m c (ix2 r k) := by
  unfold V
  after_reads_at

/-- The first three rows of the first layer's weights, transposed. -/
theorem w1Point_apply (j : Fin 64) (k : Fin 3) : V m c main_v20 (ix2 j k) = w1 m c (ix2 ⟨k.val, by omega⟩ j) := by
  unfold V
  after_reads_at

/-- The other rows of the first layer's weights, transposed. -/
theorem w1Row_apply (j : Fin 64) (k : Fin 32) : V m c main_v22 (ix2 j k) = w1 m c (ix2 ⟨3 + k.val, by omega⟩ j) := by
  unfold V
  after_reads_at

/-- The second layer's weights transposed. -/
theorem w2T_apply (j : Fin 32) (k : Fin 64) : V m c main_v24 (ix2 j k) = w2 m c (ix2 k j) := by
  unfold V
  after_reads_at

/-- The last layer's weights transposed. -/
theorem w3T_apply (j : Fin 35) (k : Fin 32) : V m c main_v26 (ix2 j k) = w3 m c (ix2 k j) := by
  unfold V
  after_reads_at

/-- The first bias as a column. -/
theorem b1Column_apply (j : Fin 64) : V m c main_v27 (ix2 j 0) = b1 m c (ix1 j) := by
  unfold V
  after_reads_at

/-- The second bias as a column. -/
theorem b2Column_apply (j : Fin 32) : V m c main_v28 (ix2 j 0) = b2 m c (ix1 j) := by
  unfold V
  after_reads_at

/-- The last bias as a column. -/
theorem b3Column_apply (j : Fin 35) : V m c main_v29 (ix2 j 0) = b3 m c (ix1 j) := by
  unfold V
  after_reads_at

/-! ## Where the blocks lie -/

/-- The scalars' window stays on its one block. -/
theorem index0 : ∀ t, win0_0.index t = ![0] := by decide +kernel
/-- The depths' window is on row `t` of the depths. -/
theorem index1 : ∀ t, win0_1.index t = ![t.val, 0, 0] := by decide +kernel
/-- The semantic map's window is on row `t` of the map. -/
theorem index2 : ∀ t, win0_2.index t = ![t.val, 0, 0] := by decide +kernel
/-- The window of the table stays on its one block. -/
theorem index3 : ∀ t, win0_3.index t = ![0, 0] := by decide +kernel
/-- The window of the first weights for the point stays on its one block. -/
theorem index4 : ∀ t, win0_4.index t = ![0, 0] := by decide +kernel
/-- The window of the first weights for the table's row stays on its one block. -/
theorem index5 : ∀ t, win0_5.index t = ![0, 0] := by decide +kernel
/-- The window of the first bias stays on its one block. -/
theorem index6 : ∀ t, win0_6.index t = ![0, 0] := by decide +kernel
/-- The window of the second weights stays on its one block. -/
theorem index7 : ∀ t, win0_7.index t = ![0, 0] := by decide +kernel
/-- The window of the second bias stays on its one block. -/
theorem index8 : ∀ t, win0_8.index t = ![0, 0] := by decide +kernel
/-- The window of the last weights stays on its one block. -/
theorem index9 : ∀ t, win0_9.index t = ![0, 0] := by decide +kernel
/-- The window of the last bias stays on its one block. -/
theorem index10 : ∀ t, win0_10.index t = ![0, 0] := by decide +kernel

/-- There are 64 grid points. -/
theorem point_lt (t : Fin cfg0.N) : t.val < 64 := t.isLt

/-! ## The blocks at an index -/

variable (t : Fin cfg0.N)

/-- The four scalars. -/
theorem block0 (k : Fin 4) : iblk m c 0 t (ix1 k)
    = ![camera m c (ix2 0 2), camera m c (ix2 1 2), Ideal.div 1 (camera m c (ix2 0 0)), Ideal.div 1 (camera m c (ix2 1 1))] k :=
  .trans (b := V m c main_v14 (ix1 k)) (by blk_ext [iblk, index0 t]) (scalars_apply m c k)

/-- The depths of the point's pixels. -/
theorem block1 (p : Fin 4096) : iblk m c 1 t (ix3 0 0 p)
    = depth m c (pixel ⟨t.val * 4096 + p.val, by have := point_lt t; omega⟩) :=
  .trans (b := V m c main_v15 (ix3 ⟨t.val, point_lt t⟩ 0 p)) (by blk_ext [iblk, index1 t]) (depthRows_apply m c _ p)

/-- The semantic map at the point's pixels. -/
theorem block2 (p : Fin 4096) : iblk m c 2 t (ix3 0 0 p)
    = sem m c (pixel ⟨t.val * 4096 + p.val, by have := point_lt t; omega⟩) :=
  .trans (b := V m c main_v16 (ix3 ⟨t.val, point_lt t⟩ 0 p)) (by blk_ext [iblk, index2 t]) (semRows_apply m c _ p)

/-- The table. -/
theorem block3 (k : Fin 32) (r : Fin 17) : iblk m c 3 t (ix2 k r) = table m c (ix2 r k) :=
  .trans (b := V m c main_v17 (ix2 k r)) (by blk_ext [iblk, index3 t]) (tableT_apply m c k r)

/-- The first layer's weights for the point. -/
theorem block4 (j : Fin 64) (k : Fin 3) : iblk m c 4 t (ix2 j k) = w1 m c (ix2 ⟨k.val, by omega⟩ j) :=
  .trans (b := V m c main_v20 (ix2 j k)) (by blk_ext [iblk, index4 t]) (w1Point_apply m c j k)

/-- The first layer's weights for the table's row. -/
theorem block5 (j : Fin 64) (k : Fin 32) : iblk m c 5 t (ix2 j k) = w1 m c (ix2 ⟨3 + k.val, by omega⟩ j) :=
  .trans (b := V m c main_v22 (ix2 j k)) (by blk_ext [iblk, index5 t]) (w1Row_apply m c j k)

/-- The first bias. -/
theorem block6 (j : Fin 64) : iblk m c 6 t (ix2 j 0) = b1 m c (ix1 j) :=
  .trans (b := V m c main_v27 (ix2 j 0)) (by blk_ext [iblk, index6 t]) (b1Column_apply m c j)

/-- The second layer's weights. -/
theorem block7 (j : Fin 32) (k : Fin 64) : iblk m c 7 t (ix2 j k) = w2 m c (ix2 k j) :=
  .trans (b := V m c main_v24 (ix2 j k)) (by blk_ext [iblk, index7 t]) (w2T_apply m c j k)

/-- The second bias. -/
theorem block8 (j : Fin 32) : iblk m c 8 t (ix2 j 0) = b2 m c (ix1 j) :=
  .trans (b := V m c main_v28 (ix2 j 0)) (by blk_ext [iblk, index8 t]) (b2Column_apply m c j)

/-- The last layer's weights. -/
theorem block9 (j : Fin 35) (k : Fin 32) : iblk m c 9 t (ix2 j k) = w3 m c (ix2 k j) :=
  .trans (b := V m c main_v26 (ix2 j k)) (by blk_ext [iblk, index9 t]) (w3T_apply m c j k)

/-- The last bias. -/
theorem block10 (j : Fin 35) : iblk m c 10 t (ix2 j 0) = b3 m c (ix1 j) :=
  .trans (b := V m c main_v29 (ix2 j 0)) (by blk_ext [iblk, index10 t]) (b3Column_apply m c j)

end Cert.Proof.Windows

end
-- ==== Proof.Arrays.lean ====
/- What the kernel's output arrays hold: the blocks of the 64 grid points side by side are the arrays of Image.lean, the
   points and features transposed and the labels in rows of 4096. -/
module

public import proofs.«01_k».proof.Proof.Block
public import proofs.«01_k».proof.Proof.Windows

@[expose] public section

set_option maxRecDepth 16384

noncomputable section

namespace Cert.Proof.Arrays

open Idealize.ShloMosaic Idealize.ShloMosaic.TcCoe Cert.KernelIdeal Cert.KernelIdeal.Gen Cert.KernelIdeal.Facts₀ Idealize.SL.Sem
open Cert.Proof.Windows

variable (m : (ℓ : Loc nD τ sig) → Buf (Elt Ideal) ℓ) (c : Dev nD)

/-! ## Where the output blocks lie -/

/-- The points window is on block `t` of its array. -/
theorem index11 : ∀ t, win0_11.index t = ![0, t.val] := by decide +kernel
/-- The labels window is on block `t` of its array. -/
theorem index12 : ∀ t, win0_12.index t = ![t.val, 0, 0] := by decide +kernel
/-- The features window is on block `t` of its array. -/
theorem index13 : ∀ t, win0_13.index t = ![0, t.val] := by decide +kernel

/-- A grid point's coordinate is its number. -/
theorem coords_val : ∀ t : Fin grid0.N, (grid0.coords t 0).val = t.val := by decide +kernel

/-- The number of pixel `p` of the block of grid point `t`. -/
def number (t : Fin cfg0.N) (p : Fin 4096) : Fin 262144 := ⟨t.val * 4096 + p.val, by have := point_lt t; omega⟩

/-- Pixel `p` of the points block of `t` is the array's column of that pixel. -/
theorem emb11 (t : Fin cfg0.N) (k : Fin 3) (p : Fin 4096) :
    ((cfg0.win 11).blk t).view.emb (ix2 k p) = ix2 k (number t p) := by
  blk_ext [index11 t, number]

/-- Pixel `p` of the labels block of `t` is entry `p` of the array's row `t`. -/
theorem emb12 (t : Fin cfg0.N) (p : Fin 4096) :
    ((cfg0.win 12).blk t).view.emb (ix3 0 0 p) = ix3 ⟨t.val, point_lt t⟩ 0 p := by
  blk_ext [index12 t]

/-- Pixel `p` of the features block of `t` is the array's column of that pixel. -/
theorem emb13 (t : Fin cfg0.N) (o : Fin 35) (p : Fin 4096) :
    ((cfg0.win 13).blk t).view.emb (ix2 o p) = ix2 o (number t p) := by
  blk_ext [index13 t, number]

/-! ## Labels -/

/-- The labels, in rows of 4096 pixels. -/
def labelRows : IVec ⟨3, ![64, 1, 4096]⟩ 32 := fun i =>
  imageLabels (sem m c) (depth m c) (ix1 ⟨(i 0).val * 4096 + (i 2).val, by
    have h0 : (i 0).val < 64 := (i 0).isLt
    have h2 : (i 2).val < 4096 := (i 2).isLt
    omega⟩)

/-- The label of a pixel, from the two blocks of its grid point. -/
theorem block_label (t : Fin cfg0.N) (p : Fin 4096) :
    label (iblk m c 1 t (ix3 0 0 p)) (iblk m c 2 t (ix3 0 0 p)) = imageLabels (sem m c) (depth m c) (ix1 (number t p)) := by
  rw [block1, block2]; rfl

/-- The labels array. -/
theorem labels_array : (dats m 0 c).arrAt 12 cfg0.N = labelRows m c := by
  refine (dats m 0 c).arrAt_eq_of_covers 12 _ (by decide +kernel) fun t hf y => ?_
  idx_vars y
  obtain rfl : y0 = 0 := Subsingleton.elim _ _
  obtain rfl : y1 = 0 := Subsingleton.elim _ _
  rw [emb12]
  blk_simp
  rw [after0_12]
  unfold outsAt0
  frame_out
  exact (Block.label_apply _ _ y2).trans (block_label m c t y2)

/-! ## Points -/

section
variable (hfx : camera m c (ix2 0 0) ≠ 0) (hfy : camera m c (ix2 1 1) ≠ 0)
include hfx hfy

/-- The points block of a grid point. -/
theorem block_points (t : Fin cfg0.N) (k : Fin 3) (p : Fin 4096) :
    Block.points (iblk m c 1 t) (grid0.coords t 0).val (iblk m c 0 t (ix1 0)) (iblk m c 0 t (ix1 1)) (iblk m c 0 t (ix1 2))
        (iblk m c 0 t (ix1 3)) (ix2 k p)
      = imagePoints (depth m c) (camera m c) (ix2 (number t p) k) := by
  rw [coords_val, block0, block0, block0, block0]
  refine (Block.point_apply _ _ _ _ p _ _ hfx hfy k).trans ?_
  rw [block1]
  have hr : t.val * 8 + p.val / 512 = (t.val * 4096 + p.val) / 512 := by omega
  have hu : p.val % 512 = (t.val * 4096 + p.val) % 512 := by omega
  rw [hr, hu]
  rfl

/-- The points array. -/
theorem points_array : (dats m 0 c).arrAt 11 cfg0.N = fun i => imagePoints (depth m c) (camera m c) (ix2 (i 1) (i 0)) := by
  refine (dats m 0 c).arrAt_eq_of_covers 11 _ (by decide +kernel) fun t hf y => ?_
  idx_vars y
  rw [emb11]
  blk_simp
  rw [after0_11]
  unfold outsAt0
  frame_out
  pointwise
  exact block_points m c hfx hfy t y0 y1

/-- The features array. -/
theorem features_array : (dats m 0 c).arrAt 13 cfg0.N = fun i =>
    imageFeatures (sem m c) (depth m c) (camera m c) (table m c) (w1 m c) (b1 m c) (w2 m c) (b2 m c) (w3 m c) (b3 m c)
      (ix2 (i 1) (i 0)) := by
  refine (dats m 0 c).arrAt_eq_of_covers 13 _ (by decide +kernel) fun t hf y => ?_
  idx_vars y
  rw [emb13]
  blk_simp
  rw [after0_13]
  unfold outsAt0
  frame_out
  pointwise
  refine (Block.feature_apply y1 _ _ _ _ _ _ _ _ _ _ _ ((Block.clip_apply _ _ y1).trans (congrArg clipWord (block_label m c t y1)))
    (fun r k => table m c (ix2 r k)) (fun k j => w1 m c (ix2 k j)) (fun j => b1 m c (ix1 j)) (fun k j => w2 m c (ix2 k j))
    (fun j => b2 m c (ix1 j)) (fun k j => w3 m c (ix2 k j)) (fun j => b3 m c (ix1 j))
    (block3 m c t) (block4 m c t) (block5 m c t) (block6 m c t) (block7 m c t) (block8 m c t) (block9 m c t) (block10 m c t)
    y0).trans ?_
  have hp : ∀ k, _ = imagePoints (depth m c) (camera m c) (ix2 (number t y1) k) := fun k => block_points m c hfx hfy t k y1
  unfold Block.points at hp
  simp only [hp]
  rfl

end

end Cert.Proof.Arrays

end
-- ==== Proof.KernelRun.lean ====
/- What the kernel's program computes: after the 64 blocks the host transposes the points and the features and puts the
   label rows end to end, so the three results are the arrays of Image.lean. -/
module

public import proofs.«01_k».proof.Proof.Arrays

@[expose] public section

set_option maxRecDepth 16384

noncomputable section

namespace Cert.Proof.KernelRun

open Idealize.ShloMosaic Idealize.ShloMosaic.TcCoe Cert.KernelIdeal Cert.KernelIdeal.Gen Cert.KernelIdeal.Facts₀ Idealize.SL.Sem
open Cert.Proof.Windows Cert.Proof.Arrays

variable (m : (ℓ : Loc nD τ sig) → Buf (Elt Ideal) ℓ) (ρ : Dev nD → PrngReg) (c : Dev nD)

/-- The windows are over different arrays. -/
theorem arrays_distinct : Function.Injective (Pipeline.arrRef spec0) := by decide +kernel

/-- The host's operations after the kernel find in the array of window `w` what the kernel left there. -/
theorem array_after (w : Fin cfg0.W) :
    Pipeline.withArrays (cfgs 0).spec c (V0 m c) (fun w => (dats m 0 c).arrAt w (cfgs 0).N)
      (Proc.devRef .tc (Pipeline.arrRef spec0 w)) = (dats m 0 c).arrAt w cfg0.N :=
  Pipeline.withArrays_arr spec0 arrays_distinct c _ _ w

/-- The points returned. -/
theorem points_result (hfx : camera m c (ix2 0 0) ≠ 0) (hfy : camera m c (ix2 1 1) ≠ 0) :
    Pipeline.afterTail₀ cfgs (dats m) 0 (V0 m) [hostOps1] c main_v31 = imagePoints (depth m c) (camera m c) := by
  unfold Pipeline.afterTail₀
  funext i
  idx_vars i
  after_reads_at
  exact congrFun ((array_after m c 11).trans (points_array m c hfx hfy)) (ix2 i1 i0)

/-- The labels returned. -/
theorem labels_result :
    Pipeline.afterTail₀ cfgs (dats m) 0 (V0 m) [hostOps1] c main_v32 = imageLabels (sem m c) (depth m c) := by
  unfold Pipeline.afterTail₀
  funext i
  idx_vars i
  after_reads_at
  refine (congrFun ((array_after m c 12).trans (labels_array m c)) _).trans ?_
  exact congrArg (imageLabels (sem m c) (depth m c)) (congrArg ix1 (Fin.ext (by simp only [ix3]; exact Nat.div_add_mod' _ _)))

/-- The features returned. -/
theorem features_result (hfx : camera m c (ix2 0 0) ≠ 0) (hfy : camera m c (ix2 1 1) ≠ 0) :
    Pipeline.afterTail₀ cfgs (dats m) 0 (V0 m) [hostOps1] c main_v33
      = imageFeatures (sem m c) (depth m c) (camera m c) (table m c) (w1 m c) (b1 m c) (w2 m c) (b2 m c) (w3 m c) (b3 m c) := by
  unfold Pipeline.afterTail₀
  funext i
  idx_vars i
  after_reads_at
  exact congrFun ((array_after m c 13).trans (features_array m c hfx hfy)) (ix2 i1 i0)

/-- Where the focal lengths are not zero, every run of the kernel's program ends with the image's points, labels and
    features as its results. -/
theorem run (hf : ∀ c : Dev nD, camera m c (ix2 0 0) ≠ 0 ∧ camera m c (ix2 1 1) ≠ 0) :
    θ_run defs (onTc (τ := τ) (main (F := Ideal))) ⟨m, fun _ => 0, ρ⟩ fun r => ∀ c : Dev nD,
      r.2.mem ((c.tc : Thread nD τ).loc main_v31) = imagePoints (depth m c) (camera m c)
      ∧ r.2.mem ((c.tc : Thread nD τ).loc main_v32) = imageLabels (sem m c) (depth m c)
      ∧ r.2.mem ((c.tc : Thread nD τ).loc main_v33)
          = imageFeatures (sem m c) (depth m c) (camera m c) (table m c) (w1 m c) (b1 m c) (w2 m c) (b2 m c) (w3 m c) (b3 m c) :=
  (θ_run defs _ _).mono (fun _ h c =>
    ⟨((h c).2 main_v31 (Pipeline.mem_restRefs_of main_v31 (by decide) (by decide))).trans
        (points_result m c (hf c).1 (hf c).2),
      ((h c).2 main_v32 (Pipeline.mem_restRefs_of main_v32 (by decide) (by decide))).trans (labels_result m c),
      ((h c).2 main_v33 (Pipeline.mem_restRefs_of main_v33 (by decide) (by decide))).trans
        (features_result m c (hf c).1 (hf c).2)⟩)
    (run_main m ρ)

end Cert.Proof.KernelRun

end
-- ==== Proof.Reference.lean ====
/- What the reference computes: its three results are the arrays of Image.lean. Its row lookup stays inside the table, so
   the fill for rows outside it is never read. -/
module

public import proofs.«01_k».proof.Proof.Image
public import proofs.«01_k».proof.Proof.Gen.ReferenceIdeal
public import proofs.«01_k».proof.Proof.Gen.ReferenceIdeal.Run
public import Idealize.ShloMosaic.Lib.Routing.Ops
public import Idealize.ShloMosaic.Lib.Routing.OpsPair
public import Idealize.ShloMosaic.Lib.ReduceAll
public import Idealize.ShloMosaic.Lib.Tactic.CleanTypes

@[expose] public section

set_option maxRecDepth 16384

noncomputable section

namespace Cert.Proof.Reference

open Idealize.ShloMosaic Idealize.ShloMosaic.TcCoe Cert.ReferenceIdeal Cert.ReferenceIdeal.Facts₀ Idealize.SL.Sem

/-! ## The row lookup -/

/-- The labels clipped into `[0, 16]`, a negative one wrapped by the table's length, as a column of row numbers. -/
def rows (l : IVec S262144 32) : IVec S262144x1 32 :=
  have c : IVec S262144 32 := minsi (broadcastInDim S262144 ![] bcast_S_S262144 (id (constantI S_ 32 16#32)))
    (maxsi (broadcastInDim S262144 ![] bcast_S_S262144 (id (constantI S_ 32 0#32))) l)
  broadcastInDim S262144x1 ![0] bcast_S262144_S262144x1_0
    (select (cmpi .slt c (broadcastInDim S262144 ![] bcast_S_S262144 (constantI S_ 32 0#32)))
      (addi c (broadcastInDim S262144 ![] bcast_S_S262144 (constantI S_ 32 17#32))) c)

/-- The bits that say which row numbers lie inside the table. -/
def inTable (l : IVec S262144 32) : IVec S262144x1 1 :=
  andi (cmpi .sge (rows l) (broadcastInDim S262144x1 ![] bcast_S_S262144x1 (constantI S_ 32 0#32)))
    (cmpi .sle (rows l) (broadcastInDim S262144x1 ![0, 1] bcast_S1x1_S262144x1_0_1
      (broadcastInDim S1x1 ![1] bcast_S1_S1x1_1 (constantI S1 32 16#32))))

/-- The table's rows at the clipped labels, each entry filled where the row number is out of bounds. -/
def taken (table : FVec Ideal S17x32 .f32) (l : IVec S262144 32) : FVec Ideal S262144x32 .f32 :=
  select
    (broadcastInDim S262144x32 ![0] bcast_S262144_S262144x32_0
      (Host.reduce IntOp.andi (inTable l) (constantI S_ 1 1#1) reducesTo_S262144x1_S262144_d1 h_S_))
    (Host.gather gather_S17x32_S262144x1_S262144x32_1_0_n_n_0_1_132 table (rows l))
    (broadcastInDim S262144x32 ![] bcast_S_S262144x32 (constant S_ .f32 0x7FC00000#32))

/-- A row number is the clipped label's: it is not negative, so nothing is wrapped. -/
theorem rows_apply (l : IVec S262144 32) (n : Fin 262144) :
    rows l (ix2 n 0) = BitVec.ofNat 32 (tableRow (l (ix1 n))).val := by
  rw [← clipWord_eq]
  pointwise [rows]
  exact Routing.wrap_of_lt (clipWord (l (ix1 n))) _ (by rw [clipWord_toNat]; omega)

/-- Every row number lies inside the table. -/
theorem inTable_apply (l : IVec S262144 32) (i : S262144x1.Idx) : inTable l i = 1#1 := by
  idx_vars i
  obtain rfl : i1 = 0 := Subsingleton.elim _ _
  pointwise [inTable]
  rw [rows_apply]
  generalize tableRow _ = r
  revert r
  decide

/-- The rows taken are the table's at the clipped labels. -/
theorem taken_apply (table : FVec Ideal S17x32 .f32) (l : IVec S262144 32) (n : Fin 262144) (k : Fin 32) :
    taken table l (ix2 n k) = table (ix2 (tableRow (l (ix1 n))) k) := by
  have hmask : Host.reduce IntOp.andi (inTable l) (constantI S_ 1 1#1) reducesTo_S262144x1_S262144_d1 h_S_ = fun _ => 1#1 :=
    funext fun j => Host.reduce_andi_one _ _ _ _ j rfl (inTable_apply l)
  have hrow : Host.gather gather_S17x32_S262144x1_S262144x32_1_0_n_n_0_1_132 table (rows l) (ix2 n k)
      = table (ix2 (tableRow (l (ix1 n))) k) := by
    rw [ix2_eq_valueIdx, ix2_eq_valueIdx]
    exact Routing.gather_row _ rfl rfl rfl rfl rfl table (rows l) n k (tableRow (l (ix1 n)))
      (by rw [← ix2_eq_valueIdx]; exact rows_apply l n) (by decide)
  unfold taken
  rw [hmask]
  pointwise
  exact hrow

/-! ## Points and labels -/

/-- Which pixels are kept, as the reference writes it over the whole image. -/
def kept (depth : FVec Ideal S512x512 .f32) : IVec S262144 1 :=
  shapeCast S262144
    (andi (cmpf .ogt depth (broadcastInDim S512x512 ![] bcast_S_S512x512 (constant S_ .f32 0x3DCCCCCD#32)))
      (cmpf .olt depth (broadcastInDim S512x512 ![] bcast_S_S512x512 (constant S_ .f32 0x41200000#32))))
    shapeCasts_S512x512_S262144

/-- The coordinates along one image axis, back-projected with a centre `c` and a focal length `f`. -/
def projected (depth u : FVec Ideal S512x512 .f32) (c f : FVec Ideal S_ .f32) : FVec Ideal S512x512x1 .f32 :=
  broadcastInDim S512x512x1 ![0, 1] bcast_S512x512_S512x512x1_0_1
    (Host.divf (mulf (subf u (broadcastInDim S512x512 ![] bcast_S_S512x512 c)) depth)
      (broadcastInDim S512x512 ![] bcast_S_S512x512 f))

/-- The points, as the reference writes them. -/
def pointsTerm (depth : FVec Ideal S512x512 .f32) (K : FVec Ideal S3x3 .f32) : FVec Ideal S262144x3 .f32 :=
  select
    (broadcastInDim S262144x3 ![0, 1] bcast_S262144x1_S262144x3_0_1
      (broadcastInDim S262144x1 ![0] bcast_S262144_S262144x1_0 (kept depth)))
    (shapeCast S262144x3
      (concatenate S512x512x3 2
        [⟨S512x512x1, projected depth (broadcastInDim S512x512 ![1] bcast_S512_S512x512_1 (sitofp .f32 (iotaInDim S512 32 0)))
            (shapeCast S_ (extractStridedSlice S1x1 ![0, 2] K slices_S3x3_S1x1_0_2) shapeCasts_S1x1_S_)
            (shapeCast S_ (extractStridedSlice S1x1 ![0, 0] K slices_S3x3_S1x1_0_0) shapeCasts_S1x1_S_)⟩,
          ⟨S512x512x1, projected depth (broadcastInDim S512x512 ![0] bcast_S512_S512x512_0 (sitofp .f32 (iotaInDim S512 32 0)))
            (shapeCast S_ (extractStridedSlice S1x1 ![1, 2] K slices_S3x3_S1x1_1_2) shapeCasts_S1x1_S_)
            (shapeCast S_ (extractStridedSlice S1x1 ![1, 1] K slices_S3x3_S1x1_1_1) shapeCasts_S1x1_S_)⟩,
          ⟨S512x512x1, broadcastInDim S512x512x1 ![0, 1] bcast_S512x512_S512x512x1_0_1 depth⟩]
        concatenates_S512x512x1_S512x512x1_S512x512x1_S512x512x3_d2)
      shapeCasts_S512x512x3_S262144x3)
    (broadcastInDim S262144x3 ![] bcast_S_S262144x3 (id (constant S_ .f32 0x00000000#32)))

/-- The labels, as the reference writes them. -/
def labelsTerm (sem : IVec S512x512 32) (depth : FVec Ideal S512x512 .f32) : IVec S262144 32 :=
  select (kept depth) (shapeCast S262144 sem shapeCasts_S512x512_S262144)
    (broadcastInDim S262144 ![] bcast_S_S262144 (id (constantI S_ 32 0#32)))

/-- The reference's points are the image's. -/
theorem pointsTerm_eq (depth : FVec Ideal S512x512 .f32) (K : FVec Ideal S3x3 .f32) : pointsTerm depth K = imagePoints depth K := by
  funext i
  idx_vars i
  match i1 with
  | 0 => pointwise [pointsTerm, kept, projected, imagePoints, point, pixel, inRange, place, id_eq]
  | 1 => pointwise [pointsTerm, kept, projected, imagePoints, point, pixel, inRange, place, id_eq]
  | 2 => pointwise [pointsTerm, kept, projected, imagePoints, point, pixel, inRange, place, id_eq]

/-- The reference's labels are the image's. -/
theorem labelsTerm_eq (sem : IVec S512x512 32) (depth : FVec Ideal S512x512 .f32) :
    labelsTerm sem depth = imageLabels sem depth := by
  funext i
  idx_vars i
  pointwise [labelsTerm, kept, imageLabels, label, inRange, pixel, id_eq]

/-! ## Features -/

variable (w1 : FVec Ideal S35x64 .f32) (b1 : FVec Ideal S64 .f32) (w2 : FVec Ideal S64x32 .f32) (b2 : FVec Ideal S32 .f32)
  (w3 : FVec Ideal S32x35 .f32) (b3 : FVec Ideal S35 .f32)

/-- The network on all pixels' points and table rows, joined side by side, as the reference writes it. -/
def networkTerm (x : FVec Ideal S262144x3 .f32) (y : FVec Ideal S262144x32 .f32) : FVec Ideal S262144x35 .f32 :=
  have h1 : FVec Ideal S262144x64 .f32 := maximumf
    (addf (Host.dotGeneral dot_S262144x35_S35x64_S262144x64_1_0_0_1_n_n none
        (concatenate S262144x35 1 [⟨S262144x3, x⟩, ⟨S262144x32, y⟩] concatenates_S262144x3_S262144x32_S262144x35_d1) w1)
      (broadcastInDim S262144x64 ![0, 1] bcast_S1x64_S262144x64_0_1 (broadcastInDim S1x64 ![1] bcast_S64_S1x64_1 b1)))
    (broadcastInDim S262144x64 ![] bcast_S_S262144x64 (constant S_ .f32 0x00000000#32))
  have h2 : FVec Ideal S262144x32 .f32 := maximumf
    (addf (Host.dotGeneral dot_S262144x64_S64x32_S262144x32_1_0_0_1_n_n none h1 w2)
      (broadcastInDim S262144x32 ![0, 1] bcast_S1x32_S262144x32_0_1 (broadcastInDim S1x32 ![1] bcast_S32_S1x32_1 b2)))
    (broadcastInDim S262144x32 ![] bcast_S_S262144x32 (constant S_ .f32 0x00000000#32))
  addf (Host.dotGeneral dot_S262144x32_S32x35_S262144x35_1_0_0_1_n_n none h2 w3)
    (broadcastInDim S262144x35 ![0, 1] bcast_S1x35_S262144x35_0_1 (broadcastInDim S1x35 ![1] bcast_S35_S1x35_1 b3))

/-- The reference's network on a pixel: the first layer's sum over thirty-five inputs is the sum over the point's three and
    the row's thirty-two. -/
theorem networkTerm_apply (x : FVec Ideal S262144x3 .f32) (y : FVec Ideal S262144x32 .f32) (n : Fin 262144) (o : Fin 35) :
    networkTerm w1 b1 w2 b2 w3 b3 x y (ix2 n o)
      = output
          (hidden2 (hidden1 (fun k => x (ix2 n k)) (fun k => y (ix2 n k)) (fun k j => w1 (ix2 k j)) (fun j => b1 (ix1 j)))
            (fun k j => w2 (ix2 k j)) (fun j => b2 (ix1 j)))
          (fun k j => w3 (ix2 k j)) (fun j => b3 (ix1 j)) o := by
  pointwise [networkTerm, output, hidden2, hidden1]

/-- The reference's features are the image's. -/
theorem featuresTerm_eq (sem : IVec S512x512 32) (depth : FVec Ideal S512x512 .f32) (K : FVec Ideal S3x3 .f32)
    (table : FVec Ideal S17x32 .f32) :
    networkTerm w1 b1 w2 b2 w3 b3 (pointsTerm depth K) (taken table (labelsTerm sem depth))
      = imageFeatures sem depth K table w1 b1 w2 b2 w3 b3 := by
  funext i
  idx_vars i
  rw [networkTerm_apply, pointsTerm_eq, labelsTerm_eq]
  simp only [taken_apply]
  rfl

/-! ## The run -/

variable (m : (ℓ : Loc nD τ sig) → Buf (Elt Ideal) ℓ) (ρ : Dev nD → PrngReg)

/-- On every device, from any memory with zero counters: every weakly fair execution of the reference ends with the
    points, labels and features of the image as its results, and its arguments unchanged. -/
theorem run : θ_run defs (onTc (τ := τ) (main (F := Ideal))) ⟨m, fun _ => 0, ρ⟩ fun r => ∀ c : Dev nD,
    r.2.mem ((c.tc : Thread nD τ).loc main_v34)
        = imagePoints (m ((c.tc : Thread nD τ).loc main_arg1)) (m ((c.tc : Thread nD τ).loc main_arg2))
      ∧ r.2.mem ((c.tc : Thread nD τ).loc main_v36)
        = imageLabels (m ((c.tc : Thread nD τ).loc main_arg0)) (m ((c.tc : Thread nD τ).loc main_arg1))
      ∧ r.2.mem ((c.tc : Thread nD τ).loc main_v53)
        = imageFeatures (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (pointsTerm_eq _ _), (h c).2.1.trans (labelsTerm_eq _ _),
    (h c).2.2.1.trans (featuresTerm_eq _ _ _ _ _ _ _ _ _ _), (h c).2.2.2⟩) (Value.run (F := Ideal) m ρ)

end Cert.Proof.Reference

end
-- ==== Proof.Equation.lean ====
/- The equation of the two programs: where the focal lengths are not zero, the kernel's and the reference's results are
   both the image's points, labels and features of the same arguments. -/
module

public import proofs.«01_k».proof.Defs
public import proofs.«01_k».proof.Proof.KernelRun
public import proofs.«01_k».proof.Proof.Reference

@[expose] public section

noncomputable section

namespace Cert.Proof

open Idealize.ShloMosaic Idealize.SL.Sem

/-- The shape relations that the precondition states. -/
theorem preFacts : Cert.Pre_focals_nonzero.Facts where
  slices_S3x3_S1x1_0_0 := by decide
  shapeCasts_S1x1_S_ := by decide
  slices_S3x3_S1x1_1_1 := by decide

/-- Where the conjunction of two bits is 1, both conditions hold. -/
theorem both_hold (p q : Prop) [Decidable p] [Decidable q]
    (h : IntOp.andi (BitVec.ofBool (decide p)) (BitVec.ofBool (decide q)) = 1#1) : p ∧ q := by
  by_cases hp : p <;> by_cases hq : q <;> simp_all [IntOp.andi]

/-- The precondition says that the two focal lengths are not zero. -/
theorem focals_ne_zero [Cert.Pre_focals_nonzero.Facts] (m : (ℓ : Loc KernelIdeal.nD KernelIdeal.τ KernelIdeal.sig) → Buf (Elt Ideal) ℓ)
    (h : Cert.Pre_KernelIdeal_focals_nonzero m) (c : Dev KernelIdeal.nD) :
    Windows.camera m c (ix2 0 0) ≠ 0 ∧ Windows.camera m c (ix2 1 1) ≠ 0 := by
  have h0 := congrFun (h c) ix0
  pointwise [Cert.Pre_focals_nonzero.fn] at h0
  exact both_hold _ _ h0

/-- The kernel and the reference return equal results. -/
theorem results_equal [Cert.Pre_focals_nonzero.Facts] :
    Cert.algebraic_KernelIdeal_ReferenceIdeal_pre_focals_nonzero (hKernelIdeal := Cert.KernelIdeal.Gen.facts)
      (hReferenceIdeal := Cert.ReferenceIdeal.Gen.facts) := by
  intro m g m' g' hpre hargs
  refine ⟨_, _, _, (θ_run _ _ _).mono (fun r h c => ⟨(h.1 c).1, (h.1 c).2.1, (h.1 c).2.2, h.2 c⟩)
      (θ_run_and (KernelRun.run m g (focals_ne_zero m hpre)) (Cert.KernelIdeal.Gen.unchanged m g)),
    (θ_run _ _ _).mono (fun r h c => ?_) (Reference.run m' g')⟩
  obtain ⟨a0, a1, a2, a3, a4, a5, a6, a7, a8, a9⟩ := hargs c
  obtain ⟨h0, h1, h2, h3⟩ := h c
  rw [a1, a2] at h0
  rw [a0, a1] at h1
  rw [a0, a1, a2, a3, a4, a5, a6, a7, a8, a9] at h2
  exact ⟨h0, h1, h2, h3⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference's run leaves its arguments unchanged and every semaphore at zero: it has no semaphores. -/
theorem reference_frame : Cert.quiescent_ReferenceIdeal (hReferenceIdeal := Cert.ReferenceIdeal.Gen.facts) := fun m g _ =>
  (θ_run _ _ _).mono (fun r h => ⟨fun c => (h c).2.2.2, sem_eq_zero_of_no_sems (by decide) r.2⟩) (Reference.run m g)

/-- Every claim of the certificate holds. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    haveI := preFacts; results_equal⟩

end Cert.Proof

end
